-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "rsqrt_c" .f32 0x3DB504F3#32 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x128 : Shape := ⟨3, ![16, 4096, 128]⟩
abbrev S32x128 : Shape := ⟨2, ![32, 128]⟩
abbrev S16x32x128 : Shape := ⟨3, ![16, 32, 128]⟩
abbrev S1x4096x128 : Shape := ⟨3, ![1, 4096, 128]⟩
abbrev S1x32x128 : Shape := ⟨3, ![1, 32, 128]⟩
abbrev S4096x128 : Shape := ⟨2, ![4096, 128]⟩
abbrev S4096x32 : Shape := ⟨2, ![4096, 32]⟩
abbrev S32 : Shape := ⟨1, ![32]⟩
abbrev S1x32 : Shape := ⟨2, ![1, 32]⟩
abbrev S32x1 : Shape := ⟨2, ![32, 1]⟩
abbrev S1 : Shape := ⟨1, ![1]⟩
abbrev S1x1x1 : Shape := ⟨3, ![1, 1, 1]⟩
abbrev S16x4096 : Shape := ⟨2, ![16, 4096]⟩

abbrev nBuf : Space → Nat
  | .hbm => 4
  | .vmem => 5
  | .smem => 0
  | _ => 0

abbrev bufTy : (tb : Table) → Fin (tcTables nBuf tb) → BufTy
  | .hbm, ⟨0, _⟩ => ⟨S16x4096x128, .f32⟩
  | .hbm, ⟨1, _⟩ => ⟨S32x128, .f32⟩
  | .hbm, ⟨2, _⟩ => ⟨S16x32x128, .f32⟩
  | .hbm, ⟨3, _⟩ => ⟨S16x4096, .f32⟩
  | .local _ .vmem, ⟨0, _⟩ => ⟨S1x4096x128, .f32⟩
  | .local _ .vmem, ⟨1, _⟩ => ⟨S1x4096x128, .f32⟩
  | .local _ .vmem, ⟨2, _⟩ => ⟨S32x128, .f32⟩
  | .local _ .vmem, ⟨3, _⟩ => ⟨S1x32x128, .f32⟩
  | .local _ .vmem, ⟨4, _⟩ => ⟨S1x32x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "rsqrt_c" => some (((Real.sqrt 128)⁻¹ : ℝ) : EReal)
  | _ => none
-- ==== ReferenceIdeal.lean ====
abbrev S16x4096x128 : Shape := ⟨3, ![16, 4096, 128]⟩
abbrev S32x128 : Shape := ⟨2, ![32, 128]⟩
abbrev S_ : Shape := ⟨0, ![]⟩
abbrev S1x32x128 : Shape := ⟨3, ![1, 32, 128]⟩
abbrev S16x32x128 : Shape := ⟨3, ![16, 32, 128]⟩
abbrev S16x4096x32 : Shape := ⟨3, ![16, 4096, 32]⟩
abbrev S16x32 : Shape := ⟨2, ![16, 32]⟩
abbrev S16x1x32 : Shape := ⟨3, ![16, 1, 32]⟩
abbrev S16x32x1 : Shape := ⟨3, ![16, 32, 1]⟩
abbrev S16x4096 : Shape := ⟨2, ![16, 4096]⟩
abbrev S16 : Shape := ⟨1, ![16]⟩
abbrev S16x1 : Shape := ⟨2, ![16, 1]⟩

abbrev nBuf : Space → Nat
  | .hbm => 46
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S32x128, .f32⟩
  | .hbm, ⟨2, _⟩ => ⟨S_, .f32⟩
  | .hbm, ⟨3, _⟩ => ⟨S_, .f32⟩
  | .hbm, ⟨4, _⟩ => ⟨S1x32x128, .f32⟩
  | .hbm, ⟨5, _⟩ => ⟨S16x32x128, .f32⟩
  | .hbm, ⟨6, _⟩ => ⟨S16x4096x32, .f32⟩
  | .hbm, ⟨7, _⟩ => ⟨S16x4096x32, .f32⟩
  | .hbm, ⟨8, _⟩ => ⟨S16x4096x32, .f32⟩
  | .hbm, ⟨9, _⟩ => ⟨S_, .f32⟩
  | .hbm, ⟨10, _⟩ => ⟨S16x32, .f32⟩
  | .hbm, ⟨11, _⟩ => ⟨S_, .f32⟩
  | .hbm, ⟨12, _⟩ => ⟨S16x32, .f32⟩
  | .hbm, ⟨13, _⟩ => ⟨S16x32, .f32⟩
  | .hbm, ⟨14, _⟩ => ⟨S16x1x32, .f32⟩
  | .hbm, ⟨15, _⟩ => ⟨S16x4096x32, .f32⟩
  | .hbm, ⟨16, _⟩ => ⟨S16x4096x32, .f32⟩
  | .hbm, ⟨17, _⟩ => ⟨S16x4096x32, .f32⟩
  | .hbm, ⟨18, _⟩ => ⟨S_, .f32⟩
  | .hbm, ⟨19, _⟩ => ⟨S16x32, .f32⟩
  | .hbm, ⟨20, _⟩ => ⟨S16x1x32, .f32⟩
  | .hbm, ⟨21, _⟩ => ⟨S16x4096x32, .f32⟩
  | .hbm, ⟨22, _⟩ => ⟨S16x4096x32, .f32⟩
  | .hbm, ⟨23, _⟩ => ⟨S16x32x128, .f32⟩
  | .hbm, ⟨24, _⟩ => ⟨S16x32x128, .f32⟩
  | .hbm, ⟨25, _⟩ => ⟨S16x32x128, .f32⟩
  | .hbm, ⟨26, _⟩ => ⟨S_, .f32⟩
  | .hbm, ⟨27, _⟩ => ⟨S16x32, .f32⟩
  | .hbm, ⟨28, _⟩ => ⟨S16x32x1, .f32⟩
  | .hbm, ⟨29, _⟩ => ⟨S16x32x1, .f32⟩
  | .hbm, ⟨30, _⟩ => ⟨S_, .f32⟩
  | .hbm, ⟨31, _⟩ => ⟨S16x32x1, .f32⟩
  | .hbm, ⟨32, _⟩ => ⟨S16x32x1, .f32⟩
  | .hbm, ⟨33, _⟩ => ⟨S16x32x128, .f32⟩
  | .hbm, ⟨34, _⟩ => ⟨S16x32x128, .f32⟩
  | .hbm, ⟨35, _⟩ => ⟨S16x4096, .f32⟩
  | .hbm, ⟨36, _⟩ => ⟨S16x4096, .f32⟩
  | .hbm, ⟨37, _⟩ => ⟨S_, .f32⟩
  | .hbm, ⟨38, _⟩ => ⟨S16, .f32⟩
  | .hbm, ⟨39, _⟩ => ⟨S16x1, .f32⟩
  | .hbm, ⟨40, _⟩ => ⟨S16x1, .f32⟩
  | .hbm, ⟨41, _⟩ => ⟨S_, .f32⟩
  | .hbm, ⟨42, _⟩ => ⟨S16x1, .f32⟩
  | .hbm, ⟨43, _⟩ => ⟨S16x1, .f32⟩
  | .hbm, ⟨44, _⟩ => ⟨S16x4096, .f32⟩
  | .hbm, ⟨45, _⟩ => ⟨S16x4096, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Proof.Spec.lean ====
/- The mathematics of one batch entry, on the extended reals: attention of a few query rows over many tokens, the residual
   of each query row, the row divided by its Euclidean length, then the whole block divided by its Euclidean length.
   Two spellings of the residual (the quotient by the softmax's denominator after the sum over the tokens, or inside it)
   have the same normalised rows, infinities included (`rowUnit_eq`). -/
module

public import Idealize.ShloMosaic.PureOps.Ideal

@[expose] public section

noncomputable section

namespace Cert.Vlaq

open Idealize.ShloMosaic

/-! ## Sums on the extended reals -/

/-- A finite sum is `⊥` as soon as one term is. -/
theorem sum_eq_bot {ι : Type} (s : Finset ι) (f : ι → EReal) (i : ι) (hi : i ∈ s) (h : f i = ⊥) : ∑ j ∈ s, f j = ⊥ := by
  classical
  rw [← Finset.add_sum_erase s f hi, h, EReal.bot_add]

/-- A finite sum no term of which is `⊥` is not `⊥`. -/
theorem sum_ne_bot {ι : Type} (s : Finset ι) (f : ι → EReal) (h : ∀ i ∈ s, f i ≠ ⊥) : ∑ j ∈ s, f j ≠ ⊥ := by
  classical
  induction s using Finset.induction_on with
  | empty => simp
  | insert a s ha ih =>
    rw [Finset.sum_insert ha]
    simp only [ne_eq, EReal.add_eq_bot_iff, not_or]
    exact ⟨h a (Finset.mem_insert_self a s), ih fun i hi => h i (Finset.mem_insert_of_mem hi)⟩

/-- A finite sum with a term `⊤` and no term `⊥` is `⊤`. -/
theorem sum_eq_top {ι : Type} (s : Finset ι) (f : ι → EReal) (i : ι) (hi : i ∈ s) (h : f i = ⊤) (hb : ∀ j ∈ s, f j ≠ ⊥) :
    ∑ j ∈ s, f j = ⊤ := by
  classical
  rw [← Finset.add_sum_erase s f hi, h]
  exact EReal.top_add_of_ne_bot (sum_ne_bot _ _ fun j hj => hb j (Finset.mem_of_mem_erase hj))

/-- A finite sum with an infinite term is infinite. -/
theorem sum_infinite {ι : Type} (s : Finset ι) (f : ι → EReal) (i : ι) (hi : i ∈ s) (h : f i = ⊤ ∨ f i = ⊥) :
    ∑ j ∈ s, f j = ⊤ ∨ ∑ j ∈ s, f j = ⊥ := by
  by_cases hb : ∃ j ∈ s, f j = ⊥
  · obtain ⟨j, hj, e⟩ := hb
    exact .inr (sum_eq_bot s f j hj e)
  · have hb' : ∀ j ∈ s, f j ≠ ⊥ := fun j hj e => hb ⟨j, hj, e⟩
    rcases h with h | h
    · exact .inl (sum_eq_top s f i hi h hb')
    · exact absurd h (hb' i hi)

/-- A factor that is a nonnegative real distributes over a finite sum. -/
theorem sum_mul_real {ι : Type} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The sum of reals, read on the extended reals, is the sum there. -/
theorem sum_coe {ι : Type} (s : Finset ι) (w : ι → ℝ) : ((∑ j ∈ s, w j : ℝ) : EReal) = ∑ j ∈ s, (w j : EReal) := by
  classical
  induction s using Finset.induction_on with
  | empty => simp
  | insert a s ha ih => rw [Finset.sum_insert ha, Finset.sum_insert ha, EReal.coe_add, ih]

/-! ## Rows divided by their length -/

/-- The Euclidean length of a family, floored at `eps`. -/
def len {ι : Type} [Fintype ι] (eps : EReal) (x : ι → EReal) : EReal := max (Ideal.sqrt (∑ j, x j * x j)) eps

/-- A family divided by its Euclidean length floored at `eps`. -/
def rowUnit {ι : Type} [Fintype ι] (eps : EReal) (x : ι → EReal) (i : ι) : EReal := Ideal.div (x i) (len eps x)

/-- A square is never negative. -/
theorem sq_nonneg' (x : EReal) : 0 ≤ x * x := by
  induction x with
  | bot => simp
  | top => simp
  | coe r => rw [← EReal.coe_mul]; exact_mod_cast mul_self_nonneg r

/-- Any quotient by `⊤` is zero. -/
theorem div_top' (x : EReal) : Ideal.div x ⊤ = 0 := by
  simp [Ideal.div]

/-- A row with an infinite entry normalises to zero: its length is `⊤`. -/
theorem rowUnit_infinite {ι : Type} [Fintype ι] (eps : EReal) (x : ι → EReal) (i : ι) (h : x i = ⊤ ∨ x i = ⊥) (j : ι) :
    rowUnit eps x j = 0 := by
  have e : ∑ k, x k * x k = ⊤ := by
    refine sum_eq_top _ _ i (Finset.mem_univ i) ?_ fun k _ hk => ?_
    · rcases h with h | h <;> simp [h]
    · have := sq_nonneg' (x k)
      rw [hk] at this
      exact absurd this (by simp)
  rw [rowUnit, len, e, Ideal.sqrt_top, max_eq_left le_top, div_top']

/-! ## The softmax of one query row over the tokens -/

section Row

variable {N C : Type} [Fintype N] [Fintype C]

/-- The largest score. -/
def top (f : N → EReal) : EReal := Finset.univ.fold max ⊥ f

/-- The unnormalised weight of a token: the exponential of its score less the largest. -/
def wt (f : N → EReal) (n : N) : EReal := Ideal.exp (f n - top f)

/-- The softmax's denominator. -/
def den (f : N → EReal) : EReal := ∑ n, wt f n

/-- The residual with the denominator divided out AFTER the sum over the tokens. -/
def resOut (Z : N → C → EReal) (q : C → EReal) (f : N → EReal) (c : C) : EReal :=
  Ideal.div (∑ n, wt f n * Z n c) (den f) - q c

/-- The residual with each weight divided by the denominator INSIDE the sum over the tokens. -/
def resIn (Z : N → C → EReal) (q : C → EReal) (f : N → EReal) (c : C) : EReal :=
  (∑ n, Ideal.div (wt f n) (den f) * Z n c) - q c

theorem le_top' (f : N → EReal) (n : N) : f n ≤ top f :=
  (Finset.le_fold_max (f n)).mpr (.inr ⟨n, Finset.mem_univ n, le_rfl⟩)

/-- The largest score is one of the scores. -/
theorem exists_top [Nonempty N] (f : N → EReal) : ∃ n, f n = top f := by
  obtain ⟨n, -, hn⟩ := Finset.exists_max_image (Finset.univ : Finset N) f Finset.univ_nonempty
  refine ⟨n, le_antisymm (le_top' f n) ?_⟩
  exact (Finset.fold_max_le (f n)).mpr ⟨bot_le, fun x hx => hn x hx⟩

/-- With an infinite largest score every weight is zero. -/
theorem wt_of_infinite (f : N → EReal) (h : top f = ⊤ ∨ top f = ⊥) (n : N) : wt f n = 0 := by
  rcases h with h | h
  · rw [wt, h, EReal.sub_top, Ideal.exp_bot]
  · have : f n = ⊥ := le_bot_iff.mp (h ▸ le_top' f n)
    rw [wt, this, EReal.bot_sub, Ideal.exp_bot]

/-- With a real largest score every weight is a nonnegative real. -/
theorem wt_real (f : N → EReal) (t : ℝ) (h : top f = (t : EReal)) (n : N) : ∃ r : ℝ, 0 ≤ r ∧ wt f n = (r : EReal) := by
  have hle := le_top' f n
  rw [wt, h]
  rw [h] at hle
  generalize f n = x at hle ⊢
  induction x with
  | bot => exact ⟨0, le_rfl, by rw [EReal.bot_sub, Ideal.exp_bot]; rfl⟩
  | top => exact absurd hle (by simp)
  | coe x => exact ⟨Real.exp (x - t), (Real.exp_pos _).le, by rw [← EReal.coe_sub, Ideal.exp_coe]⟩

/-- With a real largest score the denominator is a positive real. -/
theorem den_real [Nonempty N] (f : N → EReal) (t : ℝ) (h : top f = (t : EReal)) : ∃ r : ℝ, 0 < r ∧ den f = (r : EReal) := by
  choose w hw e using wt_real f t h
  refine ⟨∑ n, w n, ?_, ?_⟩
  · obtain ⟨n, hn⟩ := exists_top f
    refine Finset.sum_pos' (fun i _ => hw i) ⟨n, Finset.mem_univ n, ?_⟩
    have e1 : wt f n = ((1 : ℝ) : EReal) := by
      rw [wt, hn, h, ← EReal.coe_sub, Ideal.exp_coe, sub_self, Real.exp_zero]
    have : w n = 1 := by exact_mod_cast (e n).symm.trans e1
    rw [this]; exact one_pos
  · rw [den]
    simp only [e]
    exact (sum_coe _ w).symm

/-- With a real largest score the two residuals are equal. -/
theorem res_of_real [Nonempty N] (Z : N → C → EReal) (q : C → EReal) (f : N → EReal) (t : ℝ) (h : top f = (t : EReal)) :
    resOut Z q f = resIn Z q f := by
  obtain ⟨d, hd, e⟩ := den_real f t h
  funext c
  rw [resOut, resIn, e]
  congr 1
  simp only [Ideal.div_coe hd.ne']
  rw [sum_mul_real _ _ _ (by positivity)]
  exact Finset.sum_congr rfl fun n _ => by rw [mul_assoc, mul_assoc, mul_comm (Z n c)]

/-- With an infinite largest score both residual rows have an infinite entry, provided an infinite score comes of a token
    with a nonzero entry. -/
theorem res_of_infinite [Nonempty N] [Nonempty C] (Z : N → C → EReal) (q : C → EReal) (f : N → EReal)
    (h : top f = ⊤ ∨ top f = ⊥) (hf : ∀ n, f n ≠ 0 → ∃ c, Z n c ≠ 0) :
    (∃ c, resOut Z q f c = ⊤ ∨ resOut Z q f c = ⊥) ∧ ∃ c, resIn Z q f c = ⊤ ∨ resIn Z q f c = ⊥ := by
  have hw := wt_of_infinite f h
  have hd : den f = 0 := by simp [den, hw]
  have h0 : Ideal.div 0 0 = ⊥ := by simp [Ideal.div]
  constructor
  · obtain ⟨c⟩ := ‹Nonempty C›
    refine ⟨c, .inr ?_⟩
    simp [resOut, hw, hd, h0]
  · obtain ⟨n, hn⟩ := exists_top f
    obtain ⟨c, hc⟩ := hf n (by rcases h with h | h <;> rw [hn, h] <;> simp)
    refine ⟨c, ?_⟩
    rw [resIn]
    simp only [hw, hd, h0]
    have hs := sum_infinite Finset.univ (fun n => (⊥ : EReal) * Z n c) n (Finset.mem_univ n) (by
      rcases lt_or_gt_of_ne hc with h | h
      · exact .inl (EReal.bot_mul_of_neg h)
      · exact .inr (EReal.bot_mul_of_pos h))
    rcases hs with hs | hs
    · rw [hs]
      by_cases hq : q c = ⊤
      · right; rw [hq, EReal.sub_top]
      · left; exact EReal.top_sub hq
    · right; rw [hs, EReal.bot_sub]

/-- The two residuals have the same normalised row, whatever the entries: with a real largest score they are equal, and
    with an infinite one both rows hold an infinity and normalise to zero. -/
theorem rowUnit_eq [Nonempty N] [Nonempty C] (eps : EReal) (Z : N → C → EReal) (q : C → EReal) (f : N → EReal)
    (hf : ∀ n, f n ≠ 0 → ∃ c, Z n c ≠ 0) : rowUnit eps (resOut Z q f) = rowUnit eps (resIn Z q f) := by
  have hinf : (top f = ⊤ ∨ top f = ⊥) → rowUnit eps (resOut Z q f) = rowUnit eps (resIn Z q f) := fun h => by
    obtain ⟨⟨c, hc⟩, ⟨c', hc'⟩⟩ := res_of_infinite Z q f h hf
    funext j
    rw [rowUnit_infinite eps _ c hc, rowUnit_infinite eps _ c' hc']
  rcases hm : top f with _ | _ | t
  · exact hinf (.inr hm)
  · exact hinf (.inl hm)
  · rw [res_of_real Z q f t hm]

end Row

/-! ## The block of all query rows -/

section Block

variable {N S C : Type} [Fintype N] [Fintype S] [Fintype C]

/-- The score of token `n` against query row `s`: their inner product times `r`. -/
def score (r : EReal) (Z : N → C → EReal) (q : S → C → EReal) (s : S) (n : N) : EReal := (∑ c, Z n c * q s c) * r

/-- An entry of the normalised residual row of query row `s`, the quotient taken after the sum over the tokens. -/
def rowOut (eps r : EReal) (Z : N → C → EReal) (q : S → C → EReal) (s : S) : C → EReal :=
  rowUnit eps (resOut Z (q s) (score r Z q s))

/-- An entry of the normalised residual row of query row `s`, the quotient taken inside the sum over the tokens. -/
def rowIn (eps r : EReal) (Z : N → C → EReal) (q : S → C → EReal) (s : S) : C → EReal :=
  rowUnit eps (resIn Z (q s) (score r Z q s))

/-- The two spellings of the normalised rows are one function. -/
theorem rowOut_eq [Nonempty N] [Nonempty C] (eps r : EReal) (Z : N → C → EReal) (q : S → C → EReal) :
    rowOut eps r Z q = rowIn eps r Z q := by
  funext s
  refine rowUnit_eq eps Z (q s) _ fun n hn => ?_
  by_contra hz
  have hz' : ∀ c, Z n c = 0 := fun c => by_contra fun h => hz ⟨c, h⟩
  exact hn (by simp [score, hz'])

/-- The block of normalised rows `u` divided by its own Euclidean length over all rows and columns. -/
def blockUnit (eps : EReal) (u : S → C → EReal) (s : S) (c : C) : EReal :=
  Ideal.div (u s c) (max (Ideal.sqrt (∑ i, ∑ j, u i j * u i j)) eps)

end Block

end Cert.Vlaq

end
-- ==== Proof.Consts.lean ====
/- The float constants the two programs spell, as the extended reals their patterns denote. -/
module

public import Idealize.ShloMosaic.PureOps.Ideal

@[expose] public section

noncomputable section

namespace Cert.Vlaq

open Idealize.ShloMosaic

/-- `128.0`, whose root scales the scores, denotes the real `128`. -/
theorem ofBits_channels : Ideal.ofBits .f32 0x43000000#32 = ((128 : ℝ) : EReal) := by
  have h : Ideal.ofBits .f32 0x43000000#32 = ((8388608 * (2 ^ 16)⁻¹ : ℝ) : EReal) := by
    simp [Ideal.ofBits, Ideal.ieee, -EReal.coe_mul]
  exact h.trans (congrArg _ (by norm_num))

/-- Minus infinity, which the maximum over the tokens starts from, denotes `⊥`. -/
theorem ofBits_neg_infinity : Ideal.ofBits .f32 0xFF800000#32 = ⊥ := by
  simp [Ideal.ofBits, Ideal.ieee]

/-- The reference's scaling of a score, the quotient by the root of `128`, is the product with the reciprocal root. -/
theorem div_root (x : EReal) :
    Ideal.div x (Ideal.sqrt (Ideal.ofBits .f32 0x43000000#32)) = x * (((Real.sqrt 128)⁻¹ : ℝ) : EReal) := by
  rw [ofBits_channels, Ideal.sqrt_coe, if_neg (by norm_num),
    Ideal.div_coe (Real.sqrt_pos.mpr (by norm_num)).ne', one_div]

end Cert.Vlaq

end
-- ==== Proof.Block.lean ====
/- What the kernel's body stores for one batch entry, read at an index: the normalised residual block of Spec.lean, the
   softmax's denominator divided out after the sum over the tokens. -/
module

public import proofs.«01_k».proof.Proof.Spec
public import proofs.«01_k».proof.Proof.Consts
public import proofs.«01_k».proof.Proof.Gen.KernelIdeal.Skeleton
public import Idealize.ShloMosaic.Lib.Pointwise
public import Idealize.ShloMosaic.Lib.Pipeline.ValueKit
public import Idealize.ShloMosaic.Lib.Claim

@[expose] public section

set_option maxRecDepth 16384

noncomputable section

namespace Cert.Vlaq

open Idealize.ShloMosaic Cert.KernelIdeal Cert.KernelIdeal.Gen

/-- The floor under every length, the programs' f32 constant nearest 1e-12. -/
def eps : EReal := Ideal.ofBits .f32 0x2B8CBCCC#32

/-- The scale of the scores: the reciprocal of the root of the number of channels. -/
def scale : EReal := (((Real.sqrt 128)⁻¹ : ℝ) : EReal)

/-- The kernel's named constant denotes the scale, by the certificate's table. -/
theorem named_scale : Named.named (F := Ideal) κ "rsqrt_c" (φ := .f32) 0x3DB504F3#32 = scale :=
  IdealRules.named_const.ideal_named_scalar _ _ _ _ rfl

/-- The body's payload at row `s` and channel `c` is the block of normalised rows divided by its length. -/
theorem payload (x : Vec Ideal S1x4096x128 .f32) (y : Vec Ideal S32x128 .f32) (s : Fin 32) (c : Fin 128) :
    k0_pay1 (F := Ideal) x y (ix3 0 s c)
      = blockUnit eps (rowOut eps scale (fun (n : Fin 4096) c => x (ix3 0 n c)) fun s c => y (ix2 s c)) s c := by
  pointwise [k0_pay1]
  simp only [named_scale, ofBits_neg_infinity]
  rfl

end Cert.Vlaq

end
-- ==== Proof.Array.lean ====
/- What the kernel's program computes: the array its pipeline writes, batch entry by batch entry (`final`), and the result the
   reshape after the pipeline leaves, at an index (`result`), with the run that ends there (`run`). -/
module

public import proofs.«01_k».proof.Proof.Block
public import proofs.«01_k».proof.Proof.Gen.KernelIdeal.Frame

@[expose] public section

set_option maxRecDepth 16384

noncomputable section

namespace Cert.Vlaq.Kern

open Idealize.ShloMosaic Idealize.ShloMosaic.TcCoe Idealize.SL.Sem Idealize.ShloMosaic.Pipeline Cert.KernelIdeal Cert.KernelIdeal.Gen

variable (m : (ℓ : Loc nD τ sig) → Buf (Elt Ideal) ℓ)

/-- The normalised block of batch entry `b` of the tokens `x` and query rows `y`. -/
def entry (x : FVec Ideal S16x4096x128 .f32) (y : FVec Ideal S32x128 .f32) (b : Fin 16) : Fin 32 → Fin 128 → EReal :=
  blockUnit eps (rowOut eps scale (fun (n : Fin 4096) c => x (ix3 b n c)) fun s c => y (ix2 s c))

/-- The array of all batch entries. -/
def blocks (x : FVec Ideal S16x4096x128 .f32) (y : FVec Ideal S32x128 .f32) : FVec Ideal S16x32x128 .f32 :=
  fun j => entry x y (j 0) (j 1) (j 2)

/-- Every window's block index at a grid point. -/
theorem idx : ∀ t : Fin cfg0.N, win0_0.index t = ![t.val, 0, 0] ∧ win0_1.index t = ![0, 0] ∧ win0_2.index t = ![t.val, 0, 0]
    ∧ t.val < 16 :=
  (by decide +kernel : ∀ t : Fin grid0.N, _)

/-- The tokens' block at a point is that batch entry's tokens. -/
theorem tokens_at (c : Dev nD) (t : Fin cfg0.N) (n : Fin 4096) (k : Fin 128) :
    (show Vec Ideal S1x4096x128 .f32 from iblk m c 0 t) (ix3 0 n k)
      = m ((c : Thread nD τ).loc main_arg0) (ix3 (⟨t.val, (idx t).2.2.2⟩ : Fin 16) n k) := by
  blk_ext! [iblk, V, idx t]

/-- The query rows' block at a point is the whole array. -/
theorem queries_at (c : Dev nD) (t : Fin cfg0.N) : iblk m c 1 t = m ((c : Thread nD τ).loc main_arg1) := by
  blk_ext! [iblk, V, idx t]

/-- The array the pipeline leaves holds every batch entry's normalised block. -/
theorem final (c : Dev nD) :
    (dats m 0 c).arrAt 2 cfg0.N = blocks (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  obtain rfl : y0 = 0 := Subsingleton.elim _ _
  refine (payload (iblk m c 0 t) (iblk m c 1 t) y1 y2).trans ?_
  have hx : (fun (n : Fin 4096) (k : Fin 128) => (show Vec Ideal S1x4096x128 .f32 from iblk m c 0 t) (ix3 0 n k))
      = fun n k => m ((c : Thread nD τ).loc main_arg0) (ix3 (⟨t.val, (idx t).2.2.2⟩ : Fin 16) n k) :=
    funext fun n => funext fun k => tokens_at m c t n k
  have hp : ((View.whole main_v0).slice (win0_2.rect t)).emb (ix3 0 y1 y2) = ix3 (⟨t.val, (idx t).2.2.2⟩ : Fin 16) y1 y2 := by
    blk_ext [idx t]
  rw [hp, queries_at m c t]
  exact congrArg (fun Z => blockUnit eps (rowOut eps scale Z fun (s : Fin 32) (k : Fin 128) => m ((c : Thread nD τ).loc main_arg1) (ix2 s k)) y1 y2) hx

/-- No two windows of the pipeline share an array. -/
theorem arrays_distinct : Function.Injective (arrRef spec0) := by
  decide

/-- The result after the reshape that follows the pipeline: the blocks laid out flat. -/
theorem tail (c : Dev nD) :
    Pipeline.afterTail₀ cfgs (dats m) 0 (V0 m) [hostOps1] c main_v1
      = shapeCast S16x4096 (blocks (m ((c : Thread nD τ).loc main_arg0)) (m ((c : Thread nD τ).loc main_arg1)))
          shapeCasts_S16x32x128_S16x4096 := by
  have hW := withArrays_arr spec0 arrays_distinct c (V0 m c) (fun w => (dats m 0 c).arrAt w cfg0.N) 2
  rw [final m c] at hW
  show StableHlo.after hostOps1 (withArrays spec0 c (V0 m c) fun w => (dats m 0 c).arrAt w cfg0.N) (Proc.devRef .tc main_v1) = _
  generalize withArrays spec0 c (V0 m c) (fun w => (dats m 0 c).arrAt w cfg0.N) = W at hW ⊢
  after_results
  exact congrArg (fun a : FVec Ideal S16x32x128 .f32 => shapeCast S16x4096 a shapeCasts_S16x32x128_S16x4096) hW

/-- The result at batch entry `b` and flat position `k`: row `k / 128`, channel `k % 128` of the entry's block. -/
theorem flat_at (x : FVec Ideal S16x4096x128 .f32) (y : FVec Ideal S32x128 .f32) (b : Fin 16) (k : Fin 4096) :
    shapeCast S16x4096 (blocks x y) shapeCasts_S16x32x128_S16x4096 (ix2 b k)
      = entry x y b (⟨k.val / 128, by omega⟩ : Fin 32) (⟨k.val % 128, by omega⟩ : Fin 128) := by
  pointwise
  rfl

/-- The kernel's run: it terminates with the result at the flat blocks of the arguments, the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
        = shapeCast S16x4096 (blocks (m ((c : Thread nD τ).loc main_arg0)) (m ((c : Thread nD τ).loc main_arg1)))
            shapeCasts_S16x32x128_S16x4096
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, h.2 c⟩) (θ_run_and (run_main m ρ) (unchanged m ρ))
  exact ((h.1 c).2 main_v1 (by decide)).trans (tail m c)

end Cert.Vlaq.Kern

end
-- ==== Proof.Ref.lean ====
/- What the reference computes, read at an index: the normalised residual block of Spec.lean, each weight divided by the
   softmax's denominator inside the sum over the tokens. The composed term is cut into the stages of the problem's
   statement — scores, weights, residuals, normalised rows, the flattened result — and each is read on its own. -/
module

public import proofs.«01_k».proof.Proof.Block
public import proofs.«01_k».proof.Proof.Gen.ReferenceIdeal.Run

@[expose] public section

set_option maxRecDepth 16384

noncomputable section

namespace Cert.Vlaq.Ref

open Idealize.ShloMosaic Idealize.ShloMosaic.TcCoe Idealize.SL.Sem Cert.ReferenceIdeal Cert.ReferenceIdeal.Gen Cert.ReferenceIdeal.Value

/-- The query rows, repeated for every batch entry. -/
def queries (y : FVec Ideal S32x128 .f32) : FVec Ideal S16x32x128 .f32 :=
  broadcastInDim S16x32x128 ![0, 1, 2] bcast_S1x32x128_S16x32x128_0_1_2 (broadcastInDim S1x32x128 ![1, 2] bcast_S32x128_S1x32x128_1_2 y)

/-- The scaled scores of every token against every query row. -/
def scores (x : FVec Ideal S16x4096x128 .f32) (y : FVec Ideal S32x128 .f32) : FVec Ideal S16x4096x32 .f32 :=
  Host.divf (Host.dotGeneral dot_S16x4096x128_S16x32x128_S16x4096x32_2_2_1_1_0_0 none x (queries y))
    (broadcastInDim S16x4096x32 ![] bcast_S_S16x4096x32 (Host.sqrt (constant S_ .f32 0x43000000#32)))

/-- The largest score over the tokens, for every query row. -/
def peak (f : FVec Ideal S16x4096x32 .f32) : FVec Ideal S16x32 .f32 :=
  Host.reduce FloatOps.maximumf f (constant S_ .f32 0xFF800000#32) reducesTo_S16x4096x32_S16x32_d1 h_S_

/-- The exponentials of the scores less the largest over the tokens, `p`. -/
def weights (f : FVec Ideal S16x4096x32 .f32) (p : FVec Ideal S16x32 .f32) : FVec Ideal S16x4096x32 .f32 :=
  Host.exp (subf f (broadcastInDim S16x4096x32 ![0, 1, 2] bcast_S16x1x32_S16x4096x32_0_1_2
    (broadcastInDim S16x1x32 ![0, 2] bcast_S16x32_S16x1x32_0_2
      (maximumf (broadcastInDim S16x32 ![] bcast_S_S16x32 (constant S_ .f32 0xFF800000#32)) p))))

/-- The weights divided by their sum over the tokens. -/
def softmax (w : FVec Ideal S16x4096x32 .f32) : FVec Ideal S16x4096x32 .f32 :=
  Host.divf w (broadcastInDim S16x4096x32 ![0, 1, 2] bcast_S16x1x32_S16x4096x32_0_1_2
    (broadcastInDim S16x1x32 ![0, 2] bcast_S16x32_S16x1x32_0_2
      (Host.reduceAdd w (constant S_ .f32 0x00000000#32) reducesTo_S16x4096x32_S16x32_d1 h_S_)))

/-- The weighted sum of the tokens less the query row. -/
def residual (x : FVec Ideal S16x4096x128 .f32) (y : FVec Ideal S32x128 .f32) (a : FVec Ideal S16x4096x32 .f32) :
    FVec Ideal S16x32x128 .f32 :=
  subf (Host.dotGeneral dot_S16x4096x32_S16x4096x128_S16x32x128_1_1_2_2_0_0 none a x) (queries y)

/-- Each residual row divided by its length. -/
def rows (r : FVec Ideal S16x32x128 .f32) : FVec Ideal S16x32x128 .f32 :=
  Host.divf r (broadcastInDim S16x32x128 ![0, 1, 2] bcast_S16x32x1_S16x32x128_0_1_2
    (maximumf
      (Host.sqrt (broadcastInDim S16x32x1 ![0, 1] bcast_S16x32_S16x32x1_0_1
        (Host.reduceAdd (mulf r r) (constant S_ .f32 0x00000000#32) reducesTo_S16x32x128_S16x32_d2 h_S_)))
      (broadcastInDim S16x32x1 ![] bcast_S_S16x32x1 (constant S_ .f32 0x2B8CBCCC#32))))

/-- The rows laid out flat. -/
def flat (u : FVec Ideal S16x32x128 .f32) : FVec Ideal S16x4096 .f32 := shapeCast _ u shapeCasts_S16x32x128_S16x4096

/-- Each flat row divided by its length. -/
def whole (v : FVec Ideal S16x4096 .f32) : FVec Ideal S16x4096 .f32 :=
  Host.divf v (broadcastInDim S16x4096 ![0, 1] bcast_S16x1_S16x4096_0_1
    (maximumf
      (Host.sqrt (broadcastInDim S16x1 ![0] bcast_S16_S16x1_0
        (Host.reduceAdd (mulf v v) (constant S_ .f32 0x00000000#32) reducesTo_S16x4096_S16_d1 h_S_)))
      (broadcastInDim S16x1 ![] bcast_S_S16x1 (constant S_ .f32 0x2B8CBCCC#32))))

/-- The reference's result is these stages in order. -/
theorem out_eq (m : (ℓ : Loc nD τ sig) → Buf (Elt Ideal) ℓ) (c : Dev nD) :
    res_out0 (F := Ideal) m c
      = whole (flat (rows (residual (m ((c.tc : Thread nD τ).loc main_arg0)) (m ((c.tc : Thread nD τ).loc main_arg1))
          (softmax (weights (scores (m ((c.tc : Thread nD τ).loc main_arg0)) (m ((c.tc : Thread nD τ).loc main_arg1)))
            (peak (scores (m ((c.tc : Thread nD τ).loc main_arg0)) (m ((c.tc : Thread nD τ).loc main_arg1))))))))) := by
  unfold res_out0 res_main_v35
  rfl

/-- A score, at an index. -/
theorem scores_at (x : FVec Ideal S16x4096x128 .f32) (y : FVec Ideal S32x128 .f32) (b : Fin 16) (n : Fin 4096) (s : Fin 32) :
    scores x y (ix3 b n s) = score scale (fun (n : Fin 4096) (c : Fin 128) => x (ix3 b n c)) (fun s c => y (ix2 s c)) s n := by
  pointwise [scores, queries]
  rw [div_root]
  rfl

/-- The largest score, at an index. -/
theorem peak_at (f : FVec Ideal S16x4096x32 .f32) (b : Fin 16) (s : Fin 32) :
    peak f (ix2 b s) = top (fun n : Fin 4096 => f (ix3 b n s)) := by
  pointwise [peak]
  rw [ofBits_neg_infinity]
  rfl

/-- A weight, at an index. -/
theorem weights_at (f : FVec Ideal S16x4096x32 .f32) (p : FVec Ideal S16x32 .f32) (b : Fin 16) (n : Fin 4096) (s : Fin 32) :
    weights f p (ix3 b n s) = Ideal.exp (f (ix3 b n s) - p (ix2 b s)) := by
  pointwise [weights]
  rw [ofBits_neg_infinity, max_eq_right bot_le]

/-- A normalised weight, at an index. -/
theorem softmax_at (w : FVec Ideal S16x4096x32 .f32) (b : Fin 16) (n : Fin 4096) (s : Fin 32) :
    softmax w (ix3 b n s) = Ideal.div (w (ix3 b n s)) (∑ k : Fin 4096, w (ix3 b k s)) := by
  pointwise [softmax]

/-- A residual, at an index. -/
theorem residual_at (x : FVec Ideal S16x4096x128 .f32) (y : FVec Ideal S32x128 .f32) (a : FVec Ideal S16x4096x32 .f32)
    (b : Fin 16) (s : Fin 32) (c : Fin 128) :
    residual x y a (ix3 b s c) = (∑ n : Fin 4096, a (ix3 b n s) * x (ix3 b n c)) - y (ix2 s c) := by
  pointwise [residual, queries]

/-- A normalised row's entry, at an index. -/
theorem rows_at (r : FVec Ideal S16x32x128 .f32) (b : Fin 16) (s : Fin 32) (c : Fin 128) :
    rows r (ix3 b s c) = rowUnit eps (fun c : Fin 128 => r (ix3 b s c)) c := by
  pointwise [rows]
  rfl

/-- The flat layout puts row `k / 128`, channel `k % 128` at position `k`. -/
theorem flat_at (u : FVec Ideal S16x32x128 .f32) (b : Fin 16) (k : Fin 4096) :
    flat u (ix2 b k) = u (ix3 b (⟨k.val / 128, by omega⟩ : Fin 32) (⟨k.val % 128, by omega⟩ : Fin 128)) := by
  pointwise [flat]

/-- A flat row's normalised entry, at an index. -/
theorem whole_at (v : FVec Ideal S16x4096 .f32) (b : Fin 16) (k : Fin 4096) :
    whole v (ix2 b k) = rowUnit eps (fun k : Fin 4096 => v (ix2 b k)) k := by
  pointwise [whole]
  rfl

/-- A sum over flat positions is the sum over the rows and channels they stand for. -/
theorem sum_flat (g : Fin 32 → Fin 128 → EReal) :
    ∑ k : Fin 4096, g (⟨k.val / 128, by omega⟩ : Fin 32) (⟨k.val % 128, by omega⟩ : Fin 128) = ∑ s, ∑ c, g s c :=
  Fin.sum_divmod_fin 128 g

/-- The reference's result at batch entry `b` and flat position `k`. -/
theorem result (m : (ℓ : Loc nD τ sig) → Buf (Elt Ideal) ℓ) (c : Dev nD) (b : Fin 16) (k : Fin 4096) :
    res_out0 (F := Ideal) m c (ix2 b k)
      = blockUnit eps (rowIn eps scale (fun (n : Fin 4096) (ch : Fin 128) => m ((c.tc : Thread nD τ).loc main_arg0) (ix3 b n ch))
          fun (s : Fin 32) ch => m ((c.tc : Thread nD τ).loc main_arg1) (ix2 s ch))
        (⟨k.val / 128, by omega⟩ : Fin 32) (⟨k.val % 128, by omega⟩ : Fin 128) := by
  rw [out_eq]
  generalize m ((c.tc : Thread nD τ).loc main_arg0) = x
  generalize m ((c.tc : Thread nD τ).loc main_arg1) = y
  have hrow : ∀ (s : Fin 32) (ch : Fin 128), rows (residual x y (softmax (weights (scores x y) (peak (scores x y))))) (ix3 b s ch)
      = rowIn eps scale (fun (n : Fin 4096) (ch : Fin 128) => x (ix3 b n ch)) (fun (s : Fin 32) ch => y (ix2 s ch)) s ch := by
    intro s ch
    rw [rows_at]
    simp only [residual_at, softmax_at, weights_at, peak_at, scores_at]
    rfl
  rw [whole_at]
  simp only [rowUnit, len, flat_at, hrow]
  rw [blockUnit, ← sum_flat]

end Cert.Vlaq.Ref

end
-- ==== Proof.Equation.lean ====
/- The equation between the two programs: entry by entry of the result, the kernel's block (Array.lean) is the reference's
   (Ref.lean), by the agreement of the two spellings of the normalised rows (Spec.lean). The five claims follow, each a theorem. -/
module

public import proofs.«01_k».proof.Defs
public import proofs.«01_k».proof.Proof.Gen.Kernel.Frame
public import proofs.«01_k».proof.Proof.Array
public import proofs.«01_k».proof.Proof.Ref

@[expose] public section

set_option maxRecDepth 16384

noncomputable section

namespace Cert.Vlaq

open Idealize.ShloMosaic Idealize.ShloMosaic.TcCoe Idealize.SL.Sem

/-- The kernel's flat result and the reference's are one array of the arguments. -/
theorem result_eq (m' : (ℓ : Loc Cert.ReferenceIdeal.nD Cert.ReferenceIdeal.τ Cert.ReferenceIdeal.sig) → Buf (Elt Ideal) ℓ)
    (c : Dev Cert.ReferenceIdeal.nD) (x : FVec Ideal Cert.KernelIdeal.S16x4096x128 .f32) (y : FVec Ideal Cert.KernelIdeal.S32x128 .f32)
    (hx : m' ((c.tc : Thread Cert.ReferenceIdeal.nD Cert.ReferenceIdeal.τ).loc Cert.ReferenceIdeal.main_arg0) = x)
    (hy : m' ((c.tc : Thread Cert.ReferenceIdeal.nD Cert.ReferenceIdeal.τ).loc Cert.ReferenceIdeal.main_arg1) = y) :
    Cert.ReferenceIdeal.Value.res_out0 (F := Ideal) m' c
      = shapeCast Cert.KernelIdeal.S16x4096 (Kern.blocks x y) Cert.KernelIdeal.Gen.shapeCasts_S16x32x128_S16x4096 := by
  funext j
  idx_vars j
  refine (Ref.result m' c _ _).trans ((Kern.flat_at x y _ _).trans ?_).symm
  rw [hx, hy, Kern.entry, rowOut_eq]

end Cert.Vlaq

/-! ## The claims -/

namespace Cert.Proof.Vlaq

open Idealize.ShloMosaic Idealize.ShloMosaic.TcCoe Idealize.SL.Sem

/-- The kernel as written runs, leaves its arguments unchanged and its semaphores at zero. -/
theorem frame_p : Cert.quiescent_Kernel := fun m ρ _ => Cert.Kernel.Gen.frame m ρ

/-- The idealized kernel runs, leaves its arguments unchanged and its semaphores at zero. -/
theorem frame_pi : Cert.quiescent_KernelIdeal := fun m ρ _ => Cert.KernelIdeal.Gen.frame m ρ

/-- The reference runs, leaves its arguments unchanged and its semaphores at zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's one rounded constant is named, and its name stands for the reciprocal root of 128. -/
theorem preserves : Cert.preserves_Kernel_KernelIdeal :=
  IdealRules.named_const.statement Cert.KernelIdeal.κ "rsqrt_c" .f32 0x3DB504F3#32 (((Real.sqrt 128)⁻¹ : ℝ) : EReal) rfl

/-- From memories agreeing on the arguments the idealized kernel and the reference end with equal results. -/
theorem algebraic : Cert.algebraic_KernelIdeal_ReferenceIdeal := by
  intro m ρ m' ρ' _ hagree
  refine ⟨_, Cert.Vlaq.Kern.run m ρ, ?_⟩
  refine (θ_run Cert.ReferenceIdeal.defs _ _).mono (fun _ h c => ⟨(h c).1.trans ?_, (h c).2⟩)
    (Cert.ReferenceIdeal.Value.run (F := Ideal) m' ρ')
  exact Cert.Vlaq.result_eq m' c _ _ (hagree c).1 (hagree c).2

end Cert.Proof.Vlaq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate holds. -/
theorem claim : Cert.Claim :=
  ⟨Cert.Kernel.Gen.facts, Cert.KernelIdeal.Gen.facts, Cert.ReferenceIdeal.Gen.facts,
    Vlaq.frame_p, Vlaq.frame_pi, Vlaq.frame_ri, Vlaq.preserves, Vlaq.algebraic⟩

end Cert.Proof

end
